-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x1024 : Shape := ⟨3, ![4, 2048, 1024]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S2048x1024, .f32⟩
  | .hbm, ⟨2, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x512x1024, .f32⟩
  | .local _ .vmem, ⟨5, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x2048x1024 : Shape := ⟨3, ![4, 2048, 1024]⟩
abbrev S2048x1024 : Shape := ⟨2, ![2048, 1024]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S1x2048x1024 : Shape := ⟨3, ![1, 2048, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2048x1024, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i1⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S2048x1, .i32⟩
  | .hbm, ⟨17, _⟩ => ⟨S1, .i32⟩
  | .hbm, ⟨18, _⟩ => ⟨S_, .i32⟩
  | .hbm, ⟨19, _⟩ => ⟨S2048x1, .i32⟩
  | .hbm, ⟨20, _⟩ => ⟨S2048x1, .i1⟩
  | .hbm, ⟨21, _⟩ => ⟨S1x1, .i32⟩
  | .hbm, ⟨22, _⟩ => ⟨S2048x1, .i32⟩
  | .hbm, ⟨23, _⟩ => ⟨S2048x1, .i1⟩
  | .hbm, ⟨24, _⟩ => ⟨S2048x1, .i1⟩
  | .hbm, ⟨25, _⟩ => ⟨S_, .i1⟩
  | .hbm, ⟨26, _⟩ => ⟨S2048, .i1⟩
  | .hbm, ⟨27, _⟩ => ⟨S2048x1024, .f32⟩
  | .hbm, ⟨28, _⟩ => ⟨S2048x1024, .i1⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S1x2048x1024, .f32⟩
  | .hbm, ⟨33, _⟩ => ⟨S4x2048x1024, .f32⟩
  | .hbm, ⟨34, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩

abbrev nD : Nat := 1
abbrev τ : Topo := Topo.v7x

variable {F : FTy → Type} [FloatOps F]
-- ==== Proof.Embed.Spec.lean ====
/- What both programs compute, as one function of the two argument arrays: the sequences with the position
   table's row of the same position added to every entry. -/
module

public import Idealize.ShloMosaic.PureOps
public import Idealize.ShloMosaic.Lib.ValueIdxCoords

@[expose] public section

noncomputable section

namespace Cert.Embed

open Idealize.ShloMosaic Idealize.ShloMosaic.ValueIdx

variable {F : FTy → Type} [FloatOps F]

/-- The shape of the batch of sequences: 4 sequences of 2048 positions with 1024 features. -/
abbrev SeqShape : Shape := ⟨3, ![4, 2048, 1024]⟩

/-- The shape of the position table: a row of 1024 features for each of the 2048 positions. -/
abbrev TabShape : Shape := ⟨2, ![2048, 1024]⟩

/-- The table entry that belongs to an entry of the batch: same position, same feature, whichever sequence. -/
abbrev tabIdx (i : SeqShape.Idx) : TabShape.Idx := ix2 (n0 := 2048) (n1 := 1024) (i 1) (i 2)

/-- The batch `x` with the position table `p` added to each of its sequences. -/
def embed (x : Vec F SeqShape .f32) (p : Vec F TabShape .f32) : Vec F SeqShape .f32 :=
  fun i => FloatOps.addf (x i) (p (tabIdx i))

end Cert.Embed

end
-- ==== Proof.Embed.Kernel.lean ====
/- The kernel's result is the batch with the position table added: a grid point adds, to its 512 positions of one
   sequence, the same 512 rows of the table, and the 16 points' blocks fill the result. -/
module

public import proofs.«01_k».proof.Proof.Gen.KernelIdeal.Value
public import proofs.«01_k».proof.Proof.Embed.Spec

@[expose] public section

noncomputable section

namespace Cert.Embed.Kernel

open Cert.KernelIdeal Cert.KernelIdeal.Gen
open Idealize.ShloMosaic Idealize.ShloMosaic.ValueIdx Idealize.ShloMosaic.TcCoe Idealize.SL.Sem
open Idealize.ShloMosaic.Pipeline (Dat Window)

variable {F : FTy → Type} [FloatOps F]
variable (m : (ℓ : Loc nD τ sig) → Buf (Elt F) ℓ) (ρ : Dev nD → PrngReg)

/-- What the result array is shown to hold: `embed` of the two arguments. -/
abbrev goal (c : Dev nD) : Vec F S4x2048x1024 .f32 :=
  embed (m ((c : Thread nD τ).loc main_arg0)) (m ((c : Thread nD τ).loc main_arg1))

/-! ## Which block each grid point works on -/

/-- Point `t` works on sequence `t / 4`, positions `512 (t % 4)` onward, all features: the blocks of the batch, of the
    table and of the result are at these numbers. -/
theorem block_index : ∀ t : Fin grid0.N,
    win0_2.index t = ![t.val / 4, t.val % 4, 0] ∧ win0_0.index t = ![t.val / 4, t.val % 4, 0]
      ∧ win0_1.index t = ![t.val % 4, 0] := by
  decide +kernel

theorem zero3 : (![0, 0, 0] : Fin 3 → Nat) = fun _ => 0 := funext fun a => by fin_cases a <;> rfl
theorem zero2 : (![0, 0] : Fin 2 → Nat) = fun _ => 0 := funext fun a => by fin_cases a <;> rfl

/-! ## What one point writes -/

/-- An entry of the result's block sits at the same index of the batch as the entry of the batch's block with the same
    coordinates. -/
theorem seq_emb (t : Fin grid0.N) (y : S1x512x1024.Idx) :
    (win0_0.rect t).emb (Value.ix2_0 y) = (win0_2.rect t).emb y := by
  obtain ⟨h2, h0, -⟩ := block_index t
  funext a
  refine Fin.ext ?_
  rw [Window.rect_emb_val win0_0 t _ a, Window.rect_emb_val win0_2 t _ a, h2, h0]
  have hy : (y 0).val < 1 := (y 0).isLt
  match a with
  | ⟨0, _⟩ => show t.val / 4 * 1 + 0 = t.val / 4 * 1 + (y 0).val; omega
  | ⟨1, _⟩ => rfl
  | ⟨2, _⟩ => rfl

/-- The table's block entry added to an entry of the result's block is the table's entry of that position and
    feature. -/
theorem tab_emb (t : Fin grid0.N) (y : S1x512x1024.Idx) :
    (win0_1.rect t).emb (Value.ix2_1 y) = tabIdx ((win0_2.rect t).emb y) := by
  obtain ⟨h2, -, h1⟩ := block_index t
  have e1 := Window.rect_emb_val win0_2 t y 1
  have e2 := Window.rect_emb_val win0_2 t y 2
  rw [h2] at e1 e2
  funext a
  refine Fin.ext ?_
  rw [Window.rect_emb_val win0_1 t _ a, h1]
  match a with
  | ⟨0, _⟩ => exact e1.symm
  | ⟨1, _⟩ => exact e2.symm

/-- Point `t` writes its block of `goal`. -/
theorem flushed_eq (c : Dev nD) (t : Fin cfg0.N) :
    (dats m 0 c).flushed 2 t = ((cfg0.win 2).blk t).view.read (Elt F) (goal m c) := by
  rw [Value.flushed2]
  funext y
  show out0_2 (iblk m c 0 t) (iblk m c 1 t) y = goal m c ((win0_2.rect t).emb y)
  unfold out0_2
  rw [Value.canon2_eq, View.ld_unit_zero zero3, View.ld_unit_zero zero2]
  show FloatOps.addf (V m c main_arg0 ((win0_0.rect t).emb (Value.ix2_0 y)))
      (V m c main_arg1 ((win0_1.rect t).emb (Value.ix2_1 y))) = _
  rw [seq_emb, tab_emb]
  rfl

/-! ## The blocks fill the result -/

/-- Every entry of the result is in the block of the point for its sequence and its quarter of the positions. -/
theorem cover (i : S4x2048x1024.Idx) :
    ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 1024 := (i 2).isLt
  have hN : grid0.N = 16 := N_0
  let t : Fin grid0.N := ⟨(i 0).val * 4 + (i 1).val / 512, by omega⟩
  have ht : t.val = (i 0).val * 4 + (i 1).val / 512 := rfl
  let y : S1x512x1024.Idx := ix3 (n0 := 1) (n1 := 512) (n2 := 1024) 0 ⟨(i 1).val % 512, by omega⟩ (i 2)
  suffices e : (win0_2.rect t).emb y = i from
    ⟨t, flush0_2 t, e ▸ ((cfg0.win 2).blk t).view.emb_mem_set y⟩
  funext a
  refine Fin.ext ?_
  rw [Window.rect_emb_val win0_2 t _ a, (block_index t).1]
  match a with
  | ⟨0, _⟩ => show t.val / 4 * 1 + 0 = (i 0).val; omega
  | ⟨1, _⟩ => show t.val % 4 * 512 + (i 1).val % 512 = (i 1).val; omega
  | ⟨2, _⟩ => show 0 * 1024 + (i 2).val = (i 2).val; omega

/-- The result array ends holding `goal`. -/
theorem final (c : Dev nD) : (dats m 0 c).arrAt 2 cfg0.N = goal m c :=
  (dats m 0 c).arrAt_eq_of_cover 2 (goal m c) (fun t _ => flushed_eq m c t) cover

/-- The kernel's run: every execution ends with `embed` of the arguments in the result and the arguments unchanged. -/
theorem run : θ_run defs (onTc (τ := τ) (main (F := F))) ⟨m, fun _ => 0, ρ⟩ fun r => ∀ c : Dev nD,
      r.2.mem ((c.tc : Thread nD τ).loc main_v0) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (Value.run_blocks m ρ)

end Cert.Embed.Kernel

end
-- ==== Proof.Embed.Reference.lean ====
/- The reference's result is the batch with the position table added: its position numbers are in range, so wrapping
   them changes nothing, the mask that guards the lookup is set everywhere, and looking up row `k` for position `k`
   gives the table back. -/
module

public import proofs.«01_k».proof.Proof.Gen.ReferenceIdeal.Run
public import proofs.«01_k».proof.Proof.Embed.Spec
public import Idealize.ShloMosaic.Lib.ReduceAll
public import Idealize.ShloMosaic.Lib.Routing.Ops

@[expose] public section

noncomputable section

namespace Cert.Embed.Reference

open Cert.ReferenceIdeal Cert.ReferenceIdeal.Gen
open Idealize.ShloMosaic Idealize.ShloMosaic.ValueIdx Idealize.ShloMosaic.TcCoe Idealize.SL.Sem

variable {F : FTy → Type} [FloatOps F]

/-! ## The position numbers -/

/-- The position numbers `0, 1, …, 2047`, as the reference counts them. -/
abbrev positions : IVec S2048 32 :=
  addi (broadcastInDim S2048 ![] bcast_S_S2048 (constantI S_ 32 0#32))
    (muli (broadcastInDim S2048 ![] bcast_S_S2048 (constantI S_ 32 1#32)) (iotaInDim S2048 32 0))

/-- The position numbers with 2048 added to the negative ones, as a lookup in a table of 2048 rows reads them. -/
abbrev wrapped : IVec S2048 32 :=
  select (cmpi .slt positions (broadcastInDim S2048 ![] bcast_S_S2048 (constantI S_ 32 0#32)))
    (addi positions (broadcastInDim S2048 ![] bcast_S_S2048 (constantI S_ 32 2048#32))) positions

/-- The row numbers as a column, which is how the lookup takes them. -/
abbrev column : IVec S2048x1 32 := broadcastInDim S2048x1 ![0] bcast_S2048_S2048x1_0 wrapped

/-- Whether each row number is one of a row of the table. -/
abbrev inRange : IVec S2048 1 :=
  Host.reduce IntOp.andi
    (andi (cmpi .sge column (broadcastInDim S2048x1 ![] bcast_S_S2048x1 (constantI S_ 32 0#32)))
      (cmpi .sle column (broadcastInDim S2048x1 ![0, 1] bcast_S1x1_S2048x1_0_1
        (broadcastInDim S1x1 ![1] bcast_S1_S1x1_1 (constantI S1 32 2047#32)))))
    (constantI S_ 1 1#1) reducesTo_S2048x1_S2048_d1 h_S_

/-- The rows looked up, with a NaN where a row number is out of range. -/
abbrev taken (p : Vec F S2048x1024 .f32) : Vec F S2048x1024 .f32 :=
  select (broadcastInDim S2048x1024 ![0] bcast_S2048_S2048x1024_0 inRange)
    (Host.gather gather_S2048x1024_S2048x1_S2048x1024_1_0_n_n_0_1_11024 p column)
    (broadcastInDim S2048x1024 ![] bcast_S_S2048x1024 (constant S_ .f32 0x7FC00000#32))

/-- The word arithmetic on one position number below 2048: counting gives the number, wrapping keeps it, and both
    bounds of the lookup's guard hold. -/
theorem word_facts : ∀ k : Fin 2048,
    Scalar.select (IntOp.cmpi .slt (IntOp.addi 0#32 (IntOp.muli 1#32 (BitVec.ofNat 32 k.val))) 0#32)
        (IntOp.addi (IntOp.addi 0#32 (IntOp.muli 1#32 (BitVec.ofNat 32 k.val))) 2048#32)
        (IntOp.addi 0#32 (IntOp.muli 1#32 (BitVec.ofNat 32 k.val))) = BitVec.ofNat 32 k.val
      ∧ IntOp.andi (IntOp.cmpi .sge (BitVec.ofNat 32 k.val) 0#32) (IntOp.cmpi .sle (BitVec.ofNat 32 k.val) 2047#32) = 1#1 := by
  decide +kernel

/-- The row number of position `k` is `k`. -/
theorem wrapped_apply (i : S2048.Idx) : wrapped i = BitVec.ofNat 32 (i 0).val := (word_facts (i 0)).1

/-- So is the entry of the column. -/
theorem column_apply (j : S2048x1.Idx) : column j = BitVec.ofNat 32 (j 0).val := by
  refine (broadcastInDim_apply _ _ wrapped j (ix1 (n := 2048) (j 0)) fun a => ?_).trans (wrapped_apply _)
  match a with | ⟨0, _⟩ => rfl

/-- Every row number is in range. -/
theorem inRange_apply (i : S2048.Idx) : inRange i = 1#1 := by
  refine Host.reduce_andi_one _ _ _ _ _ rfl fun j => ?_
  show IntOp.andi (IntOp.cmpi .sge (column j) 0#32) (IntOp.cmpi .sle (column j) 2047#32) = 1#1
  rw [column_apply]
  exact (word_facts (j 0)).2

/-! ## The lookup and the sum -/

/-- Looking up every position's row gives the table. -/
theorem taken_eq (p : Vec F S2048x1024 .f32) : taken p = p := by
  funext y
  obtain ⟨a, b, rfl⟩ : ∃ a b, y = ix2 (n0 := 2048) (n1 := 1024) a b := ⟨_, _, eq_ix2 y⟩
  show Scalar.select (inRange _) (Host.gather _ p column (ix2 a b)) _ = _
  rw [inRange_apply, ValueIdx.select_one]
  exact Routing.gather_row _ rfl rfl rfl rfl rfl p column a b a (column_apply _) (by decide)

/-- The reference's whole result, as its run states it, is `embed` of its arguments. -/
theorem result_eq (x : Vec F S4x2048x1024 .f32) (p : Vec F S2048x1024 .f32) :
    addf x (broadcastInDim S4x2048x1024 ![0, 1, 2] bcast_S1x2048x1024_S4x2048x1024_0_1_2
      (broadcastInDim S1x2048x1024 ![1, 2] bcast_S2048x1024_S1x2048x1024_1_2 (taken p))) = embed x p := by
  rw [taken_eq]
  funext i
  refine congrArg (FloatOps.addf (x i)) ?_
  refine (broadcastInDim_apply _ _ _ i (ix3 (n0 := 1) (n1 := 2048) (n2 := 1024) 0 (i 1) (i 2)) fun a => ?_).trans ?_
  · match a with | ⟨0, _⟩ => rfl | ⟨1, _⟩ => rfl | ⟨2, _⟩ => rfl
  refine broadcastInDim_apply _ _ _ _ (tabIdx i) fun a => ?_
  match a with | ⟨0, _⟩ => rfl | ⟨1, _⟩ => rfl

/-- The reference's run: every execution ends with `embed` of the arguments in the result and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
          = embed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq _ _), (h c).2⟩)
    (Cert.ReferenceIdeal.Value.run m ρ)

end Cert.Embed.Reference

end
-- ==== Proof.lean ====
/- The certificate of the position-embedding kernel: the three programs' frames, that the ideal program is the kernel,
   and that over the extended reals kernel and reference end with the same array. The mathematics is in
   `Proof/Embed`; this file assembles it. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Embed.Kernel
public import proofs.«01_k».proof.Proof.Embed.Reference
public import Idealize.ShloMosaic.Adequacy
public import Idealize.ShloMosaic.Init

@[expose] public section

noncomputable section

namespace Cert.Proof

open Idealize.ShloMosaic Idealize.SL.Sem

/-- The reference runs and leaves its arguments unchanged; it declares no semaphore, so every counter is zero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.Embed.Reference.run (F := Ideal) m ρ)

/-- Over the extended reals, from equal arguments, kernel and reference both end with the batch plus the position
    table. -/
theorem algebraic : Cert.algebraic_KernelIdeal_ReferenceIdeal := by
  intro m ρ m' ρ' _ hagree
  refine ⟨fun c => Cert.Embed.Kernel.goal m c, Cert.Embed.Kernel.run (F := Ideal) m ρ, ?_⟩
  refine (θ_run Cert.ReferenceIdeal.defs _ _).mono (fun _ h c => ⟨(h c).1.trans ?_, (h c).2⟩)
    (Cert.Embed.Reference.run (F := Ideal) m' ρ')
  rw [(hagree c).1, (hagree c).2]

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial,
    algebraic⟩

end Cert.Proof

end
